-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_finite [hPre_gain_finite : Cert.Pre_gain_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_finite [hPre_gain_finite : Cert.Pre_gain_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_finite [hKernelIdeal : Cert.KernelIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_finite [hReferenceIdeal : Cert.ReferenceIdeal.Facts] [hPre_gain_finite : Cert.Pre_gain_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gain_finite [hKernelIdeal : Cert.KernelIdeal.Facts] [hReferenceIdeal : Cert.ReferenceIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_finite : Cert.Pre_gain_finite.Facts),
    quiescent_Kernel (hKernel := hKernel)
    ∧ quiescent_KernelIdeal (hKernelIdeal := hKernelIdeal)
    ∧ quiescent_KernelIdeal_pre_gain_finite (hKernelIdeal := hKernelIdeal) (hPre_gain_finite := hPre_gain_finite)
    ∧ quiescent_ReferenceIdeal (hReferenceIdeal := hReferenceIdeal)
    ∧ quiescent_ReferenceIdeal_pre_gain_finite (hReferenceIdeal := hReferenceIdeal) (hPre_gain_finite := hPre_gain_finite)
    ∧ preserves_Kernel_KernelIdeal
    ∧ algebraic_KernelIdeal_ReferenceIdeal_pre_gain_finite (hKernelIdeal := hKernelIdeal) (hReferenceIdeal := hReferenceIdeal) (hPre_gain_finite := hPre_gain_finite)
-- ==== Pre_gain_finite.lean ====
abbrev S8x2048x2048 : Shape := ⟨3, ![8, 2048, 2048]⟩
abbrev S2048 : Shape := ⟨1, ![2048]⟩
abbrev S2048x6144 : Shape := ⟨2, ![2048, 6144]⟩
abbrev S6144 : Shape := ⟨1, ![6144]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S8x2048x2048 .f32) (main_arg1 : FVec F S8x2048x2048 .f32) (main_arg2 : FVec F S2048 .f32) (main_arg3 : FVec F S2048x6144 .fp8e4m3) (main_arg4 : FVec F S6144 .f32) : IVec S_ 1 :=
  let main_v0 : FVec F S2048 .f32 := Host.absf main_arg2
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S8x2048x2048 : Shape := ⟨3, ![8, 2048, 2048]⟩
abbrev S2048 : Shape := ⟨1, ![2048]⟩
abbrev S2048x6144 : Shape := ⟨2, ![2048, 6144]⟩
abbrev S6144 : Shape := ⟨1, ![6144]⟩
abbrev S16384x2048 : Shape := ⟨2, ![16384, 2048]⟩
abbrev S1x2048 : Shape := ⟨2, ![1, 2048]⟩
abbrev S1x6144 : Shape := ⟨2, ![1, 6144]⟩
abbrev S16384x6144 : Shape := ⟨2, ![16384, 6144]⟩
abbrev S16384x1 : Shape := ⟨2, ![16384, 1]⟩
abbrev S256x2048 : Shape := ⟨2, ![256, 2048]⟩
abbrev S256x6144 : Shape := ⟨2, ![256, 6144]⟩
abbrev S256x1 : Shape := ⟨2, ![256, 1]⟩
abbrev S256 : Shape := ⟨1, ![256]⟩
abbrev S1x255 : Shape := ⟨2, ![1, 255]⟩
abbrev S256x255 : Shape := ⟨2, ![256, 255]⟩

abbrev nBuf : Space → Nat
  | .hbm => 13
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048, .f32⟩
  | .hbm, ⟨3, _⟩ => ⟨S2048x6144, .fp8e4m3⟩
  | .hbm, ⟨4, _⟩ => ⟨S6144, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S1x6144, .f32⟩
  | .hbm, ⟨9, _⟩ => ⟨S16384x6144, .f32⟩
  | .hbm, ⟨10, _⟩ => ⟨S16384x2048, .f32⟩
  | .hbm, ⟨11, _⟩ => ⟨S16384x2048, .fp8e4m3⟩
  | .hbm, ⟨12, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x6144, .fp8e4m3⟩
  | .local _ .vmem, ⟨6, _⟩ => ⟨S1x6144, .f32⟩
  | .local _ .vmem, ⟨7, _⟩ => ⟨S256x6144, .f32⟩
  | .local _ .vmem, ⟨8, _⟩ => ⟨S256x6144, .f32⟩
  | .local _ .vmem, ⟨9, _⟩ => ⟨S256x2048, .f32⟩
  | .local _ .vmem, ⟨10, _⟩ => ⟨S256x2048, .f32⟩
  | .local _ .vmem, ⟨11, _⟩ => ⟨S256x2048, .fp8e4m3⟩
  | .local _ .vmem, ⟨12, _⟩ => ⟨S256x2048, .fp8e4m3⟩
  | .local _ .vmem, ⟨13, _⟩ => ⟨S256x1, .f32⟩
  | .local _ .vmem, ⟨14, _⟩ => ⟨S256x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x2048 : Shape := ⟨3, ![8, 2048, 2048]⟩
abbrev S2048 : Shape := ⟨1, ![2048]⟩
abbrev S2048x6144 : Shape := ⟨2, ![2048, 6144]⟩
abbrev S6144 : Shape := ⟨1, ![6144]⟩
abbrev S16384x2048 : Shape := ⟨2, ![16384, 2048]⟩
abbrev S1x2048 : Shape := ⟨2, ![1, 2048]⟩
abbrev S1x6144 : Shape := ⟨2, ![1, 6144]⟩
abbrev S16384x6144 : Shape := ⟨2, ![16384, 6144]⟩
abbrev S16384x1 : Shape := ⟨2, ![16384, 1]⟩
abbrev S16384 : Shape := ⟨1, ![16384]⟩

abbrev nBuf : Space → Nat
  | .hbm => 13
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048, .f32⟩
  | .hbm, ⟨3, _⟩ => ⟨S2048x6144, .fp8e4m3⟩
  | .hbm, ⟨4, _⟩ => ⟨S6144, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S1x6144, .f32⟩
  | .hbm, ⟨9, _⟩ => ⟨S16384x6144, .f32⟩
  | .hbm, ⟨10, _⟩ => ⟨S16384x2048, .f32⟩
  | .hbm, ⟨11, _⟩ => ⟨S16384x2048, .fp8e4m3⟩
  | .hbm, ⟨12, _⟩ => ⟨S16384x1, .f32⟩
  | .local _ .vmem, ⟨0, _⟩ => ⟨S16384x2048, .f32⟩
  | .local _ .vmem, ⟨1, _⟩ => ⟨S16384x2048, .f32⟩
  | .local _ .vmem, ⟨2, _⟩ => ⟨S1x2048, .f32⟩
  | .local _ .vmem, ⟨3, _⟩ => ⟨S2048x6144, .fp8e4m3⟩
  | .local _ .vmem, ⟨4, _⟩ => ⟨S1x6144, .f32⟩
  | .local _ .vmem, ⟨5, _⟩ => ⟨S16384x6144, .f32⟩
  | .local _ .vmem, ⟨6, _⟩ => ⟨S16384x2048, .f32⟩
  | .local _ .vmem, ⟨7, _⟩ => ⟨S16384x2048, .fp8e4m3⟩
  | .local _ .vmem, ⟨8, _⟩ => ⟨S16384x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Pow2.lean ====
module

public import Idealize.ShloMosaic.PureOps.Ideal.Laws
public import Idealize.ShloMosaic.Lib.Pointwise

@[expose] public section

set_option maxRecDepth 16384

noncomputable section

/-! # Powers of two: the kernel's integer construction and the quantiser's mathematics -/

namespace Cert.Pow2

open Idealize.ShloMosaic
open scoped BigOperators

/-- The kernel's exponent field of `t`: how many of the words `1 <<< 23, …, 255 <<< 23`, read as floats, are at most `t`. -/
def field (t : EReal) : BitVec 32 :=
  Finset.fold IntOp.addi 0#32 (fun x : Fin 255 =>
    if t < Ideal.ofBits .f32 (IntOp.shli .vector (IntOp.addi (BitVec.ofNat 32 x) 1#32) 23#32) then 0#32 else 1#32) Finset.univ

/-- The kernel's exponent of an exponent field `f`: `0` for a zero field, else `f - 126`. -/
def fieldExp (f : BitVec 32) : BitVec 32 :=
  Scalar.select (IntOp.cmpi .eq f 0#32) 0#32 (IntOp.subi f 126#32)

/-- The kernel's scale of an exponent field: the float of the word `(127 + e) <<< 23`. -/
def scaleBits (f : BitVec 32) : EReal :=
  Ideal.ofBits .f32 (IntOp.shli .vector (IntOp.addi 127#32 (fieldExp f)) 23#32)

/-- The kernel's inverse scale of an exponent field: the float of the word `(127 - e) <<< 23`. -/
def invBits (f : BitVec 32) : EReal :=
  Ideal.ofBits .f32 (IntOp.shli .vector (IntOp.subi 127#32 (fieldExp f)) 23#32)

/-- The quantiser's exponent of `t`, as the reference writes it: `0` below the least normal float, else
    `⌊log t / log 2⌋ + 1`. -/
def exponent (t : EReal) : EReal :=
  if t < Ideal.ofBits .f32 0x00800000#32 then 0
  else Ideal.liftRound Int.floor (Ideal.div (Ideal.log t) (Ideal.log (Ideal.ofBits .f32 0x40000000#32))) + 1

/-- A word with a clear sign, exponent bits `n` strictly between `0` and `255` and no fraction denotes `2 ^ (n - 127)`. -/
theorem ofBits_pow (b : BitVec 32) (n : ℕ) (h0 : (b.extractLsb' 31 1 == 1#1) = false)
    (h1 : (b.extractLsb' 23 8).toNat = n) (h2 : (b.extractLsb' 0 23).toNat = 0) (hn : 1 ≤ n) (hn' : n ≤ 254) :
    Ideal.ofBits .f32 b = (((2 : ℝ) ^ ((n : ℤ) - 127) : ℝ) : EReal) := by
  have hne : ¬ n = 255 := by omega
  have hne0 : ¬ n = 0 := by omega
  simp only [Ideal.ofBits, Ideal.ieee]
  simp only [show (8 + 23 : ℕ) = 31 from rfl, h0, h1, h2]
  norm_num [hne, hne0, -EReal.coe_mul]
  rw [show (8388608 : ℝ) = (2 : ℝ) ^ (23 : ℤ) by norm_num, ← zpow_add₀ (by norm_num : (2 : ℝ) ≠ 0)]
  congr 1
  omega

/-- The word counted at place `x`. -/
def thresholdWord (x : ℕ) : BitVec 32 := IntOp.shli .vector (IntOp.addi (BitVec.ofNat 32 x) 1#32) 23#32

/-- The fields of the words counted, read off place by place. -/
theorem thresholdWord_fields : ∀ x : Fin 254,
    ((thresholdWord x).extractLsb' 31 1 == 1#1) = false ∧ ((thresholdWord x).extractLsb' 23 8).toNat = x.val + 1
      ∧ ((thresholdWord x).extractLsb' 0 23).toNat = 0 := by
  decide +kernel

/-- The word counted at place `x < 254` is the power of two `2 ^ (x - 126)`. -/
theorem threshold (x : ℕ) (hx : x < 254) :
    Ideal.ofBits .f32 (thresholdWord x) = (((2 : ℝ) ^ ((x : ℤ) - 126) : ℝ) : EReal) := by
  obtain ⟨a, b, c⟩ := thresholdWord_fields ⟨x, hx⟩
  refine (ofBits_pow (thresholdWord x) (x + 1) a b c (by omega) (by omega)).trans ?_
  rw [show (((x + 1 : ℕ) : ℤ) - 127) = (x : ℤ) - 126 by push_cast; ring]

/-- The last word counted, at place `254`, is `⊤`. -/
theorem threshold_last : Ideal.ofBits .f32 (thresholdWord 254) = ⊤ := by
  rw [show thresholdWord 254 = 0x7F800000#32 by decide +kernel]
  simp [Ideal.ofBits, Ideal.ieee]

/-- A wrapping sum of zeros and ones over a finite set is the number of the ones. -/
theorem fold_count {ι : Type} [DecidableEq ι] (p : ι → Prop) [DecidablePred p] (s : Finset ι) :
    Finset.fold IntOp.addi 0#32 (fun x => if p x then 0#32 else 1#32) s = BitVec.ofNat 32 (s.filter fun x => ¬ p x).card := by
  induction s using Finset.induction_on with
  | empty => rfl
  | insert a s ha ih =>
    rw [Finset.fold_insert ha, ih, Finset.filter_insert]
    by_cases hp : p a
    · simp only [hp, if_true, not_true_eq_false, if_false]
      simp [IntOp.addi]
    · simp only [hp, if_false, not_false_eq_true, if_true]
      rw [Finset.card_insert_of_notMem (by simp [ha]), Nat.add_comm, BitVec.ofNat_add]
      rfl

/-- If the words at most `t` are exactly those at the places below `n`, the field is `n`. -/
theorem field_of_count (t : EReal) (n : ℕ) (hn : n ≤ 255)
    (h : ∀ x : Fin 255, ¬ (t < Ideal.ofBits .f32 (thresholdWord x)) ↔ x.val < n) :
    field t = BitVec.ofNat 32 n := by
  have e : field t = Finset.fold IntOp.addi 0#32 (fun x : Fin 255 => if t < Ideal.ofBits .f32 (thresholdWord x) then 0#32 else 1#32) Finset.univ := rfl
  rw [e, fold_count]
  congr 1
  rw [Finset.filter_congr fun x _ => h x, Fin.card_filter_val_lt]
  omega

/-- Below the least normal float the field is zero. -/
theorem field_small (t : EReal) (h : t < (((2 : ℝ) ^ (-126 : ℤ) : ℝ) : EReal)) : field t = BitVec.ofNat 32 0 := by
  refine field_of_count t 0 (by omega) fun x => ?_
  simp only [not_lt_zero', iff_false, not_not]
  by_cases hx : x.val < 254
  · rw [threshold x.val hx]
    refine h.trans_le (EReal.coe_le_coe_iff.2 (zpow_le_zpow_right₀ (by norm_num) (by omega)))
  · rw [show x.val = 254 by omega, threshold_last]
    exact h.trans (EReal.coe_lt_top _)

/-- A real between `2 ^ k` and `2 ^ (k + 1)`, `k` from `-126` to `126`, has the field `k + 127`. -/
theorem field_normal (r : ℝ) (k : ℤ) (hk : -126 ≤ k) (hk' : k ≤ 126) (h : (2 : ℝ) ^ k ≤ r) (h' : r < (2 : ℝ) ^ (k + 1)) :
    field (r : EReal) = BitVec.ofNat 32 (k + 127).toNat := by
  refine field_of_count _ _ (by omega) fun x => ?_
  rw [not_lt]
  by_cases hx : x.val < 254
  · rw [threshold x.val hx, EReal.coe_le_coe_iff]
    constructor
    · intro hle
      have h2 : (2 : ℝ) ^ ((x : ℤ) - 126) < (2 : ℝ) ^ (k + 1) := hle.trans_lt h'
      have := (zpow_lt_zpow_iff_right₀ (by norm_num : (1 : ℝ) < 2)).1 h2
      omega
    · intro hlt
      exact (zpow_le_zpow_right₀ (by norm_num) (by omega)).trans h
  · rw [show x.val = 254 by omega, threshold_last]
    constructor
    · intro hle
      exact absurd hle (not_le.2 (EReal.coe_lt_top r))
    · intro hlt; omega

/-- The words of the scale and of the inverse scale of an exponent field. -/
def scaleWord (f : BitVec 32) : BitVec 32 := IntOp.shli .vector (IntOp.addi 127#32 (fieldExp f)) 23#32
@[inherit_doc scaleWord]
def invWord (f : BitVec 32) : BitVec 32 := IntOp.shli .vector (IntOp.subi 127#32 (fieldExp f)) 23#32

/-- The fields of the scale's word, field by field. -/
theorem scaleWord_fields : ∀ n : Fin 253,
    ((scaleWord (BitVec.ofNat 32 n)).extractLsb' 31 1 == 1#1) = false
      ∧ ((scaleWord (BitVec.ofNat 32 n)).extractLsb' 23 8).toNat = (if n.val = 0 then 127 else n.val + 1)
      ∧ ((scaleWord (BitVec.ofNat 32 n)).extractLsb' 0 23).toNat = 0 := by
  decide +kernel

/-- The fields of the inverse scale's word, field by field. -/
theorem invWord_fields : ∀ n : Fin 253,
    ((invWord (BitVec.ofNat 32 n)).extractLsb' 31 1 == 1#1) = false
      ∧ ((invWord (BitVec.ofNat 32 n)).extractLsb' 23 8).toNat = (if n.val = 0 then 127 else 253 - n.val)
      ∧ ((invWord (BitVec.ofNat 32 n)).extractLsb' 0 23).toNat = 0 := by
  decide +kernel

/-- The scale of a field `n` from `0` to `252` is two to the exponent. -/
theorem scaleBits_of_field (n : ℕ) (hn : n ≤ 252) :
    scaleBits (BitVec.ofNat 32 n) = (((2 : ℝ) ^ (if n = 0 then 0 else (n : ℤ) - 126) : ℝ) : EReal) := by
  obtain ⟨a, b, c⟩ := scaleWord_fields ⟨n, by omega⟩
  refine (ofBits_pow (scaleWord (BitVec.ofNat 32 n)) (if n = 0 then 127 else n + 1) a b c (by split_ifs <;> omega) (by split_ifs <;> omega)).trans ?_
  have : (((if n = 0 then 127 else n + 1 : ℕ) : ℤ) - 127) = if n = 0 then 0 else (n : ℤ) - 126 := by split_ifs <;> omega
  rw [this]

/-- The inverse scale of a field `n` from `0` to `252` is two to the negated exponent. -/
theorem invBits_of_field (n : ℕ) (hn : n ≤ 252) :
    invBits (BitVec.ofNat 32 n) = (((2 : ℝ) ^ (-(if n = 0 then 0 else (n : ℤ) - 126)) : ℝ) : EReal) := by
  obtain ⟨a, b, c⟩ := invWord_fields ⟨n, by omega⟩
  refine (ofBits_pow (invWord (BitVec.ofNat 32 n)) (if n = 0 then 127 else 253 - n) a b c (by split_ifs <;> omega) (by split_ifs <;> omega)).trans ?_
  have : (((if n = 0 then 127 else 253 - n : ℕ) : ℤ) - 127) = -(if n = 0 then 0 else (n : ℤ) - 126) := by split_ifs <;> omega
  rw [this]

/-- The least normal float. -/
theorem ofBits_tiny : Ideal.ofBits .f32 0x00800000#32 = (((2 : ℝ) ^ (-126 : ℤ) : ℝ) : EReal) :=
  ofBits_pow _ 1 (by decide) (by decide) (by decide) (by omega) (by omega)

/-- The float `2.0`. -/
theorem ofBits_two : Ideal.ofBits .f32 0x40000000#32 = ((2 : ℝ) : EReal) := by
  have := ofBits_pow 0x40000000#32 128 (by decide) (by decide) (by decide) (by omega) (by omega)
  rw [this]; norm_num

/-- The quantiser's exponent of a real between `2 ^ k` and `2 ^ (k + 1)`, not below the least normal float, is `k + 1`. -/
theorem exponent_normal (r : ℝ) (k : ℤ) (hk : -126 ≤ k) (h : (2 : ℝ) ^ k ≤ r) (h' : r < (2 : ℝ) ^ (k + 1)) :
    exponent (r : EReal) = (((k + 1 : ℤ) : ℝ) : EReal) := by
  have hpos : 0 < r := lt_of_lt_of_le (zpow_pos (by norm_num) k) h
  have hge : ¬ ((r : EReal) < Ideal.ofBits .f32 0x00800000#32) := by
    rw [ofBits_tiny, not_lt, EReal.coe_le_coe_iff]
    exact (zpow_le_zpow_right₀ (by norm_num) hk).trans h
  have hl2 : 0 < Real.log 2 := Real.log_pos (by norm_num)
  have hdiv : Ideal.div (Ideal.log (r : EReal)) (Ideal.log ((2 : ℝ) : EReal)) = ((Real.log r / Real.log 2 : ℝ) : EReal) := by
    rw [Ideal.log_coe, Ideal.log_coe, if_neg (not_le.2 hpos), if_neg (by norm_num)]
    unfold Ideal.div
    rw [if_neg (by simpa using hl2.ne'), ← EReal.coe_inv, ← EReal.coe_mul, div_eq_mul_inv]
  have hfl : ⌊Real.log r / Real.log 2⌋ = k := by
    rw [Int.floor_eq_iff]
    constructor
    · rw [le_div_iff₀ hl2, ← Real.log_zpow]
      exact Real.log_le_log (zpow_pos (by norm_num) k) h
    · rw [div_lt_iff₀ hl2]
      have : ((k : ℝ) + 1) * Real.log 2 = Real.log ((2 : ℝ) ^ (k + 1)) := by
        rw [Real.log_zpow]; push_cast; ring
      rw [this]
      exact Real.log_lt_log hpos h'
  unfold exponent
  rw [if_neg hge, ofBits_two, hdiv, Ideal.liftRound_coe, hfl]
  norm_cast

/-- `2` to an integer exponent, as the reference writes it. -/
theorem exp2_int (k : ℤ) : Ideal.exp2 (((k : ℤ) : ℝ) : EReal) = (((2 : ℝ) ^ k : ℝ) : EReal) := by
  rw [Ideal.exp2_coe]
  exact congrArg _ (Real.rpow_intCast 2 k)

/-- For `t` below `2 ^ 126`, the kernel's scale and inverse scale are two to the quantiser's exponent and to its negative. -/
theorem scale_eq (t : EReal) (h : t < (((2 : ℝ) ^ (126 : ℤ) : ℝ) : EReal)) :
    scaleBits (field t) = Ideal.exp2 (exponent t) ∧ invBits (field t) = Ideal.exp2 (0 - exponent t) := by
  by_cases hs : t < (((2 : ℝ) ^ (-126 : ℤ) : ℝ) : EReal)
  · have he : exponent t = (((0 : ℤ) : ℝ) : EReal) := by
      unfold exponent
      rw [ofBits_tiny, if_pos hs]; simp
    have hne : (0 : EReal) - (((0 : ℤ) : ℝ) : EReal) = (((0 : ℤ) : ℝ) : EReal) := by simp
    rw [field_small t hs, scaleBits_of_field 0 (by omega), invBits_of_field 0 (by omega), he, hne, exp2_int]
    exact ⟨by simp, by simp⟩
  · have hb : t ≠ ⊥ := by rintro rfl; exact hs (EReal.bot_lt_coe _)
    have ht : t ≠ ⊤ := by rintro rfl; exact absurd h (not_lt.2 le_top)
    lift t to ℝ using ⟨ht, hb⟩
    rw [EReal.coe_lt_coe_iff, not_lt] at hs
    rw [EReal.coe_lt_coe_iff] at h
    have hpos : 0 < t := lt_of_lt_of_le (zpow_pos (by norm_num) _) hs
    obtain ⟨k, hk1, hk2⟩ := exists_mem_Ico_zpow hpos (by norm_num : (1 : ℝ) < 2)
    have hk : -126 ≤ k := by
      have := (zpow_lt_zpow_iff_right₀ (by norm_num : (1 : ℝ) < 2)).1 (hs.trans_lt hk2)
      omega
    have hk' : k ≤ 125 := by
      have := (zpow_lt_zpow_iff_right₀ (by norm_num : (1 : ℝ) < 2)).1 (hk1.trans_lt h)
      omega
    have hcoe : (0 : EReal) - (((k + 1 : ℤ) : ℝ) : EReal) = (((-(k + 1) : ℤ) : ℝ) : EReal) := by
      rw [zero_sub, ← EReal.coe_neg]; push_cast; rfl
    have hz : (if (k + 127).toNat = 0 then 0 else ((k + 127).toNat : ℤ) - 126) = k + 1 := by
      rw [if_neg (by omega)]; omega
    rw [field_normal t k hk (by omega) hk1 hk2, exponent_normal t k hk hk1 hk2, hcoe, exp2_int, exp2_int,
      scaleBits_of_field _ (by omega), invBits_of_field _ (by omega), hz]
    exact ⟨rfl, rfl⟩

end Cert.Pow2
-- ==== Proof.Row.lean ====
module

public import proofs.«01_k».proof.Proof.Pow2

@[expose] public section

set_option maxRecDepth 16384

noncomputable section

/-! # One token: the normalised row, its quantiser and its part of the product, as functions of the row -/

namespace Cert.Row

open Idealize.ShloMosaic Cert.Pow2
open scoped BigOperators

variable (r g : Fin 2048 → EReal)

/-- The reciprocal root of a row's mean square. -/
def inv : EReal :=
  Ideal.rsqrt (Ideal.div (∑ x, r x * r x) (Ideal.ofBits .f32 0x45000000#32) + Ideal.ofBits .f32 0x358637BD#32)

/-- The normalised row. -/
def h (j : Fin 2048) : EReal := r j * inv r * g j

/-- The row's largest absolute value. -/
def amax : EReal :=
  Finset.fold max (Ideal.ofBits .f32 0xFF800000#32) (fun x => FloatOps.absf (F := Ideal) (φ := .f32) (h r g x)) Finset.univ

/-- The row's largest absolute value over the quantiser's largest code. -/
def t : EReal := amax r g * Ideal.ofBits .f32 0x3B124925#32

/-- The row's scale, two to the quantiser's exponent. -/
def scale : EReal := Ideal.exp2 (exponent (t r g))

/-- The row's codes. -/
def code (j : Fin 2048) : EReal :=
  min (Ideal.ofBits .f32 0x43E00000#32) (max (Ideal.ofBits .f32 0xC3E00000#32) (h r g j * Ideal.exp2 (0 - exponent (t r g))))

/-- One element of the row's product with a column `w` of weights of scale `s`. -/
def y (w : Fin 2048 → EReal) (s : EReal) : EReal := (∑ k, code r g k * w k) * scale r g * s

/-! ## The row's largest value is below `2 ^ 126` when the gain is finite -/

/-- The constant `2048.0`. -/
theorem ofBits_2048 : Ideal.ofBits .f32 0x45000000#32 = ((2048 : ℝ) : EReal) := by
  have := ofBits_pow 0x45000000#32 138 (by decide) (by decide) (by decide) (by omega) (by omega)
  rw [this]; norm_num

/-- The epsilon is a positive real. -/
theorem ofBits_eps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- The constant `1 / 448` is a nonnegative real below `2 ^ -8`. -/
theorem ofBits_recip : ∃ q : ℝ, 0 ≤ q ∧ q < (2 : ℝ) ^ (-8 : ℤ) ∧ Ideal.ofBits .f32 0x3B124925#32 = (q : EReal) := by
  refine ⟨(9586981 : ℝ) * (2 : ℝ) ^ (-32 : ℤ), by positivity, by norm_num, ?_⟩
  simp [Ideal.ofBits, Ideal.ieee, -EReal.coe_mul]

/-- The least float, `-∞`, is `⊥`. -/
theorem ofBits_bot : Ideal.ofBits .f32 0xFF800000#32 = ⊥ := by
  simp [Ideal.ofBits, Ideal.ieee]

/-- The largest finite float is below `2 ^ 128`. -/
theorem ofBits_max : ∃ q : ℝ, 0 ≤ q ∧ q ≤ (2 : ℝ) ^ (128 : ℤ) ∧ Ideal.ofBits .f32 0x7F7FFFFF#32 = (q : EReal) := by
  refine ⟨(16777215 : ℝ) * (2 : ℝ) ^ (104 : ℤ), by positivity, by norm_num, ?_⟩
  simp [Ideal.ofBits, Ideal.ieee, -EReal.coe_mul]

/-- A square of extended reals is nonnegative. -/
theorem sq_nonneg (x : EReal) : 0 ≤ x * x := by
  induction x with
  | bot => simp
  | coe a => rw [← EReal.coe_mul]; exact_mod_cast mul_self_nonneg a
  | top => simp

/-- The normalised row without its gain is at most `64` in absolute value: a row with an infinite element normalises to zero, and
    an element of a finite one is at most the root of the sum of squares. -/
theorem abs_normalised (j : Fin 2048) : ∃ a : ℝ, |a| ≤ 64 ∧ r j * inv r = (a : EReal) := by
  obtain ⟨e, he, hee⟩ := ofBits_eps
  by_cases hinf : ∃ k, r k = ⊤ ∨ r k = ⊥
  · obtain ⟨k, hk⟩ := hinf
    have hk2 : r k * r k = ⊤ := by rcases hk with hk | hk <;> rw [hk] <;> rfl
    have hsum : ∑ x, r x * r x = ⊤ := by
      refine top_le_iff.1 ?_
      rw [← hk2]
      exact Finset.single_le_sum (f := fun x => r x * r x) (fun x _ => sq_nonneg (r x)) (Finset.mem_univ k)
    have hinv : inv r = 0 := by
      unfold inv
      rw [hsum, ofBits_2048, hee]
      unfold Ideal.div
      rw [if_neg (by norm_cast), ← EReal.coe_inv, EReal.top_mul_coe_of_pos (by norm_num), EReal.top_add_coe, Ideal.rsqrt_top]
    exact ⟨0, by norm_num, by rw [hinv, mul_zero]; rfl⟩
  · have hfin : ∀ k, ∃ a : ℝ, r k = (a : EReal) := fun k =>
      ⟨(r k).toReal, (EReal.coe_toReal (fun h => hinf ⟨k, .inl h⟩) (fun h => hinf ⟨k, .inr h⟩)).symm⟩
    choose a ha using hfin
    have hsum : ∑ x, r x * r x = ((∑ x, a x * a x : ℝ) : EReal) := by
      have hcoe : ((∑ x, a x * a x : ℝ) : EReal) = ∑ x, ((a x * a x : ℝ) : EReal) :=
        map_sum (⟨⟨fun z : ℝ => (z : EReal), EReal.coe_zero⟩, EReal.coe_add⟩ : ℝ →+ EReal) _ _
      rw [hcoe]
      exact Finset.sum_congr rfl fun x _ => by rw [ha x, EReal.coe_mul]
    set S : ℝ := ∑ x, a x * a x with hS
    have hSj : a j * a j ≤ S :=
      Finset.single_le_sum (f := fun x => a x * a x) (fun x _ => mul_self_nonneg (a x)) (Finset.mem_univ j)
    have hS0 : 0 ≤ S := (mul_self_nonneg _).trans hSj
    have hpos : 0 < S / 2048 + e := by positivity
    have hinv : inv r = (((Real.sqrt (S / 2048 + e))⁻¹ : ℝ) : EReal) := by
      unfold inv
      rw [hsum, ofBits_2048, hee]
      unfold Ideal.div
      rw [if_neg (by norm_cast), ← EReal.coe_inv, ← EReal.coe_mul, ← EReal.coe_add, Ideal.rsqrt_coe,
        ← div_eq_mul_inv, if_neg (not_lt.2 hpos.le), if_neg hpos.ne']
    refine ⟨a j * (Real.sqrt (S / 2048 + e))⁻¹, ?_, by rw [ha j, hinv, EReal.coe_mul]⟩
    have hroot : 0 < Real.sqrt (S / 2048 + e) := Real.sqrt_pos.2 hpos
    rw [abs_mul, abs_of_pos (inv_pos.2 hroot), ← div_eq_mul_inv, div_le_iff₀ hroot]
    refine abs_le_of_sq_le_sq ?_ (by positivity)
    rw [mul_pow, Real.sq_sqrt hpos.le]
    nlinarith

/-- With a gain whose elements are finite floats, the quantiser's argument is below `2 ^ 126`. -/
theorem t_lt (hg : ∀ j, FloatOps.absf (F := Ideal) (φ := .f32) (g j) ≤ Ideal.ofBits .f32 0x7F7FFFFF#32) :
    t r g < (((2 : ℝ) ^ (126 : ℤ) : ℝ) : EReal) := by
  obtain ⟨M, hM0, hM, hMe⟩ := ofBits_max
  obtain ⟨q, hq0, hq, hqe⟩ := ofBits_recip
  have hmax : amax r g ≤ (((2 : ℝ) ^ (134 : ℤ) : ℝ) : EReal) := by
    refine Finset.fold_max_le _ |>.2 ⟨by rw [ofBits_bot]; exact bot_le, fun j _ => ?_⟩
    obtain ⟨a, ha, hae⟩ := abs_normalised r j
    have hgj := hg j
    rw [hMe, Ideal.absf_def, max_le_iff] at hgj
    have hgt : g j ≠ ⊤ := fun e => by rw [e] at hgj; exact absurd hgj.1 (not_le.2 (EReal.coe_lt_top _))
    have hgb : g j ≠ ⊥ := fun e => by rw [e] at hgj; exact absurd hgj.2 (not_le.2 (by rw [EReal.neg_bot]; exact EReal.coe_lt_top _))
    obtain ⟨b, hb⟩ : ∃ b : ℝ, g j = (b : EReal) := ⟨(g j).toReal, (EReal.coe_toReal hgt hgb).symm⟩
    rw [hb, ← EReal.coe_neg, EReal.coe_le_coe_iff, EReal.coe_le_coe_iff] at hgj
    have hbM : |b| ≤ (2 : ℝ) ^ (128 : ℤ) := (abs_le.2 ⟨by linarith [hgj.2], hgj.1⟩).trans hM
    have hab : |a * b| ≤ (2 : ℝ) ^ (134 : ℤ) := by
      rw [abs_mul]
      refine (mul_le_mul ha hbM (abs_nonneg _) (by norm_num)).trans (by norm_num)
    have hh : h r g j = ((a * b : ℝ) : EReal) := by
      unfold h; rw [hae, hb, EReal.coe_mul]
    rw [hh, Ideal.absf_def, ← EReal.coe_neg, max_le_iff, EReal.coe_le_coe_iff, EReal.coe_le_coe_iff]
    exact ⟨(abs_le.1 hab).2, by linarith [(abs_le.1 hab).1]⟩
  unfold t
  rw [hqe]
  refine lt_of_le_of_lt (mul_le_mul_of_nonneg_right hmax (by exact_mod_cast hq0)) ?_
  rw [← EReal.coe_mul, EReal.coe_lt_coe_iff]
  calc (2 : ℝ) ^ (134 : ℤ) * q < (2 : ℝ) ^ (134 : ℤ) * (2 : ℝ) ^ (-8 : ℤ) := mul_lt_mul_of_pos_left hq (by positivity)
    _ = (2 : ℝ) ^ (126 : ℤ) := by rw [← zpow_add₀ (by norm_num)]; norm_num

/-- With such a gain, the kernel's scale of the row is the quantiser's. -/
theorem scaleBits_eq (hg : ∀ j, FloatOps.absf (F := Ideal) (φ := .f32) (g j) ≤ Ideal.ofBits .f32 0x7F7FFFFF#32) :
    scaleBits (field (t r g)) = scale r g := (scale_eq _ (t_lt r g hg)).1

/-- With such a gain, the kernel's inverse scale of the row is two to the negated exponent. -/
theorem invBits_eq (hg : ∀ j, FloatOps.absf (F := Ideal) (φ := .f32) (g j) ≤ Ideal.ofBits .f32 0x7F7FFFFF#32) :
    invBits (field (t r g)) = Ideal.exp2 (0 - exponent (t r g)) := (scale_eq _ (t_lt r g hg)).2

end Cert.Row
-- ==== Proof.KernelRow.lean ====
module

public import proofs.«01_k».proof.Proof.Row
public import proofs.«01_k».proof.Proof.Gen.KernelIdeal.Frame
public import Idealize.ShloMosaic.Lib.Pointwise
public import Idealize.ShloMosaic.Lib.Pipeline.ValueKit

@[expose] public section

set_option maxRecDepth 16384

noncomputable section

/-! # The kernel's payloads, read row by row -/

namespace Cert.KernelIdeal.Rows

open Cert.KernelIdeal Cert.KernelIdeal.Gen Idealize.ShloMosaic Idealize.ShloMosaic.TcCoe Idealize.SL.Sem

variable (x0 x1 : FVec Ideal S256x2048 .f32) (x2 : FVec Ideal S1x2048 .f32)

/-- Row `i` of the block of summed activations. -/
def row (i : Fin 256) : Fin 2048 → EReal := fun j => x0 (ix2 i j) + x1 (ix2 i j)

/-- The gain as a row. -/
def gain : Fin 2048 → EReal := fun j => x2 (ix2 0 j)

/-- The summed activations. -/
theorem pay5_at (i : Fin 256) (j : Fin 2048) : k0_pay5 (F := Ideal) x0 x1 (ix2 i j) = row x0 x1 i j := by
  pointwise [k0_pay5]
  rfl

/-- The normalised activations. -/
theorem pay6_at (i : Fin 256) (j : Fin 2048) : k0_pay6 (F := Ideal) x0 x1 x2 (ix2 i j) = Row.h (row x0 x1 i) (gain x2) j := by
  pointwise [k0_pay6, pay5_at]
  simp only [Row.h, Row.inv, gain]

/-- The largest absolute value of each row. -/
def amaxs : FVec Ideal S256 .f32 :=
  multiReduction .maximumf [1] S256 (absf (k0_pay6 (F := Ideal) x0 x1 x2)) 0xFF800000#32 reduces_S256x2048_S256 (.inl rfl) rfl

/-- The largest absolute value of row `i`. -/
theorem amaxs_at (i : Fin 256) : amaxs x0 x1 x2 (ix1 i) = Row.amax (row x0 x1 i) (gain x2) := by
  pointwise [amaxs, pay6_at]
  simp only [Row.amax]

/-- The exponent fields of a vector of largest absolute values, as the body computes them. -/
def fields (a : FVec Ideal S256 .f32) : IVec S256x1 32 :=
  shapeCast S256x1
    (multiReductionI .add [1] S256
      (select
        (cmpf .olt
          (broadcastTo S256x255 (mulf (shapeCast S256x1 a shapeCasts_S256_S256x1) (broadcast S256x1 (Scalar.ofBits .f32 0x3B124925#32)))
            broadcasts_S256x1_S256x255)
          (broadcastTo S256x255
            (bitcastToFloat .f32 (shli (addi (iota .tc S1x255 32 [1] iota_S1x255_d1_w32) (broadcast S1x255 1#32)) (broadcast S1x255 23#32)))
            broadcasts_S1x255_S256x255))
        (broadcast S256x255 0#32) (broadcast S256x255 1#32))
      0#32 reduces_S256x255_S256 rfl)
    shapeCasts_S256_S256x1

/-- The exponent field of the `i`th of them. -/
theorem fields_at (a : FVec Ideal S256 .f32) (i : Fin 256) :
    fields a (ix2 i 0) = Pow2.field (a (ix1 i) * Ideal.ofBits .f32 0x3B124925#32) := by
  pointwise [fields]
  rfl

/-- The exponent fields. -/
theorem pay7_at (i : Fin 256) :
    k0_pay7 (F := Ideal) x0 x1 x2 (ix2 i 0) = Pow2.field (Row.t (row x0 x1 i) (gain x2)) := by
  have e : k0_pay7 (F := Ideal) x0 x1 x2 = fields (amaxs x0 x1 x2) := rfl
  rw [e, fields_at, amaxs_at]
  rfl

variable (h : FVec Ideal S256x2048 .f32) (f : IVec S256x1 32)

/-- The scales, from the exponent fields. -/
theorem pay2_at (i : Fin 256) : k0_pay2 (F := Ideal) f 0#32 (ix2 i 0) = Pow2.scaleBits (f (ix2 i 0)) := by
  pointwise [k0_pay2, k0_pay1]
  simp only [Pow2.scaleBits, Pow2.fieldExp]

/-- The codes, from the normalised activations and the exponent fields. -/
theorem pay3_at (i : Fin 256) (j : Fin 2048) : k0_pay3 (F := Ideal) h f 0#32 (ix2 i j)
    = min (Ideal.ofBits .f32 0x43E00000#32) (max (Ideal.ofBits .f32 0xC3E00000#32) (h (ix2 i j) * Pow2.invBits (f (ix2 i 0)))) := by
  pointwise [k0_pay3, k0_pay1]
  simp only [Pow2.invBits, Pow2.fieldExp]

/-- The product, from the codes and the scales. -/
theorem pay4_at (w : FVec Ideal S2048x6144 .fp8e4m3) (s : FVec Ideal S1x6144 .f32) (i : Fin 256) (j : Fin 6144) :
    k0_pay4 (F := Ideal) h f 0#32 w s (ix2 i j)
      = (∑ k, k0_pay3 (F := Ideal) h f 0#32 (ix2 i k) * w (ix2 k j)) * k0_pay2 (F := Ideal) f 0#32 (ix2 i 0) * s (ix2 0 j) := by
  pointwise [k0_pay4]

/-! ## What the body leaves of a block, with a finite gain -/

/-- The gain's elements are finite floats. -/
def Finite : Prop := ∀ j, FloatOps.absf (F := Ideal) (φ := .f32) (gain x2 j) ≤ Ideal.ofBits .f32 0x7F7FFFFF#32

variable (x3 : FVec Ideal S2048x6144 .fp8e4m3) (x4 : FVec Ideal S1x6144 .f32)

/-- The normalised activations the later parts of the body read. -/
theorem pay8_eq : k0_pay8 (F := Ideal) x0 x1 x2 x3 x4 = k0_pay6 x0 x1 x2 := by
  unfold k0_pay8
  frame_out

/-- The exponent fields the later parts of the body read. -/
theorem pay9_eq : k0_pay9 (F := Ideal) x0 x1 x2 x3 x4 = k0_pay7 (F := Ideal) x0 x1 x2 := by
  unfold k0_pay9
  frame_out

/-- The scales of a block. -/
theorem scale_at (hg : Finite x2) (i : Fin 256) :
    k0_pay2 (F := Ideal) (k0_pay9 (F := Ideal) x0 x1 x2 x3 x4) 0#32 (ix2 i 0) = Row.scale (row x0 x1 i) (gain x2) := by
  rw [pay2_at, pay9_eq, pay7_at, Row.scaleBits_eq _ _ hg]

/-- The codes of a block. -/
theorem code_at (hg : Finite x2) (i : Fin 256) (j : Fin 2048) :
    k0_pay3 (F := Ideal) (k0_pay8 x0 x1 x2 x3 x4) (k0_pay9 (F := Ideal) x0 x1 x2 x3 x4) 0#32 (ix2 i j) = Row.code (row x0 x1 i) (gain x2) j := by
  rw [pay3_at, pay8_eq, pay9_eq, pay6_at, pay7_at, Row.invBits_eq _ _ hg, Row.code]

/-- The product of a block. -/
theorem y_at (hg : Finite x2) (i : Fin 256) (j : Fin 6144) :
    k0_pay4 (F := Ideal) (k0_pay8 x0 x1 x2 x3 x4) (k0_pay9 (F := Ideal) x0 x1 x2 x3 x4) 0#32 x3 x4 (ix2 i j)
      = Row.y (row x0 x1 i) (gain x2) (fun k => x3 (ix2 k j)) (x4 (ix2 0 j)) := by
  rw [pay4_at, scale_at _ _ _ _ _ hg, Row.y]
  exact congrArg (fun z => z * _ * _) (Finset.sum_congr rfl fun k _ => by rw [code_at _ _ _ _ _ hg])

end Cert.KernelIdeal.Rows
-- ==== Proof.KernelValue.lean ====
module

public import proofs.«01_k».proof.Proof.KernelRow
public import proofs.«01_k».proof.Proof.Gen.KernelIdeal.Value
public import Idealize.ShloMosaic.Lib.Pipeline.ValueKit
public import Idealize.ShloMosaic.Lib.Claim

@[expose] public section

set_option maxRecDepth 16384

noncomputable section

/-! # The kernel's result arrays after the run, row by row of the flattened arguments -/

namespace Cert.KernelIdeal.Final

open Cert.KernelIdeal Cert.KernelIdeal.Gen Cert.KernelIdeal.Rows Idealize.ShloMosaic Idealize.ShloMosaic.TcCoe Idealize.SL.Sem
open Idealize.ShloMosaic.Pipeline (Dat)

variable (m : (ℓ : Loc nD τ sig) → Buf (Elt Ideal) ℓ)

/-- The windows' index maps, at all points: the row windows step, the others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ t.val < 64 :=
  (by decide +kernel : ∀ t : Fin grid0.N, _)

/-- The flattened activations. -/
def X (c : Dev nD) : FVec Ideal S16384x2048 .f32 := shapeCast S16384x2048 (m ((c : Thread nD τ).loc main_arg0)) shapeCasts_S8x2048x2048_S16384x2048

/-- The flattened residual. -/
def X' (c : Dev nD) : FVec Ideal S16384x2048 .f32 := shapeCast S16384x2048 (m ((c : Thread nD τ).loc main_arg1)) shapeCasts_S8x2048x2048_S16384x2048

/-- The gain as a row. -/
def G (c : Dev nD) : FVec Ideal S1x2048 .f32 := shapeCast S1x2048 (m ((c : Thread nD τ).loc main_arg2)) shapeCasts_S2048_S1x2048

/-- The weights' codes. -/
def W (c : Dev nD) : FVec Ideal S2048x6144 .fp8e4m3 := m ((c : Thread nD τ).loc main_arg3)

/-- The weights' scales as a row. -/
def WS (c : Dev nD) : FVec Ideal S1x6144 .f32 := shapeCast S1x6144 (m ((c : Thread nD τ).loc main_arg4)) shapeCasts_S6144_S1x6144

/-- The region finds the flattened arguments in its operand arrays. -/
theorem V_X (c : Dev nD) : V m c main_v0 = X m c := by entry_read; rfl
@[inherit_doc V_X]
theorem V_X' (c : Dev nD) : V m c main_v1 = X' m c := by entry_read; rfl
@[inherit_doc V_X]
theorem V_G (c : Dev nD) : V m c main_v2 = G m c := by entry_read; rfl
@[inherit_doc V_X]
theorem V_WS (c : Dev nD) : V m c main_v3 = WS m c := by entry_read; rfl

/-- Row `i` of the flattened, summed activations. -/
def rowOf (c : Dev nD) (i : Fin 16384) : Fin 2048 → EReal := fun j => X m c (ix2 i j) + X' m c (ix2 i j)

/-- Row `y` of point `t`'s blocks is row `256 t + y` of the arrays. -/
theorem row_blk (c : Dev nD) (t : Fin cfg0.N) (y : Fin 256) (i : Fin 16384) (hi : i.val = t.val * 256 + y.val) :
    row (iblk m c 0 t) (iblk m c 1 t) y = rowOf m c i := by
  funext j
  unfold row rowOf
  rw [← V_X, ← V_X']
  refine Ideal.add_congr ?_ ?_
  · blk_ext [iblk, idx t]
  · blk_ext [iblk, idx t]

/-- The gain's block is the gain. -/
theorem gain_blk (c : Dev nD) (t : Fin cfg0.N) : (iblk m c 2 t : FVec Ideal S1x2048 .f32) = G m c := by
  rw [← V_G]
  blk_ext! [iblk, idx t]

/-- The weights' block is the weights. -/
theorem w_blk (c : Dev nD) (t : Fin cfg0.N) : (iblk m c 3 t : FVec Ideal S2048x6144 .fp8e4m3) = W m c := by
  rw [W]
  blk_ext! [iblk, V, idx t]

/-- The weight scales' block is the weight scales. -/
theorem ws_blk (c : Dev nD) (t : Fin cfg0.N) : (iblk m c 4 t : FVec Ideal S1x6144 .f32) = WS m c := by
  rw [← V_WS]
  blk_ext! [iblk, idx t]

/-- The gain's block is finite when the gain is. -/
theorem finite_blk (c : Dev nD) (t : Fin cfg0.N) (hg : Finite (G m c)) : Finite (iblk m c 2 t) := by
  rw [gain_blk]; exact hg

/-- The scales after the run. -/
theorem final8 (c : Dev nD) (hg : Finite (G m c)) : (dats m 0 c).arrAt 8 (cfgs 0).N
    = fun i : S16384x1.Idx => Row.scale (rowOf m c (i 0)) (gain (G m c)) := by
  refine (dats m 0 c).arrAt_eq_of_covers 8 _ (by decide +kernel) fun t _ y => ?_
  blk_simp
  rw [after0_8]
  frame_out
  idx_vars y
  obtain rfl : y1 = 0 := Subsingleton.elim _ _
  have e0 : ((((View.whole main_v4_3).slice (win0_8.rect t)).emb (ix2 y0 0) 0 : Fin 16384) : ℕ) = t.val * 256 + y0.val := by
    blk_simp [idx t]
  refine (scale_at _ _ _ _ _ (finite_blk m c t hg) y0).trans ?_
  rw [row_blk m c t y0 _ e0, gain_blk]

/-- The codes after the run. -/
theorem final7 (c : Dev nD) (hg : Finite (G m c)) : (dats m 0 c).arrAt 7 (cfgs 0).N
    = fun i : S16384x2048.Idx => Row.code (rowOf m c (i 0)) (gain (G m c)) (i 1) := by
  refine (dats m 0 c).arrAt_eq_of_covers 7 _ (by decide +kernel) fun t _ y => ?_
  blk_simp
  rw [after0_7]
  frame_out
  idx_vars y
  have e0 : ((((View.whole main_v4_2).slice (win0_7.rect t)).emb (ix2 y0 y1) 0 : Fin 16384) : ℕ) = t.val * 256 + y0.val := by
    blk_simp [idx t]
  have e1 : (((View.whole main_v4_2).slice (win0_7.rect t)).emb (ix2 y0 y1) 1 : Fin 2048) = y1 := by
    refine Fin.ext ?_
    blk_simp [idx t]
  refine (code_at _ _ _ _ _ (finite_blk m c t hg) y0 y1).trans ?_
  rw [row_blk m c t y0 _ e0, gain_blk]
  exact congrArg _ e1.symm

/-- The summed activations after the run. -/
theorem final6 (c : Dev nD) : (dats m 0 c).arrAt 6 (cfgs 0).N = fun i : S16384x2048.Idx => rowOf m c (i 0) (i 1) := by
  refine (dats m 0 c).arrAt_eq_of_covers 6 _ (by decide +kernel) fun t _ y => ?_
  blk_simp
  rw [after0_6]
  frame_out
  idx_vars y
  have e0 : ((((View.whole main_v4_1).slice (win0_6.rect t)).emb (ix2 y0 y1) 0 : Fin 16384) : ℕ) = t.val * 256 + y0.val := by
    blk_simp [idx t]
  have e1 : (((View.whole main_v4_1).slice (win0_6.rect t)).emb (ix2 y0 y1) 1 : Fin 2048) = y1 := by
    refine Fin.ext ?_
    blk_simp [idx t]
  refine (pay5_at _ _ y0 y1).trans ?_
  rw [row_blk m c t y0 _ e0]
  exact congrArg _ e1.symm

/-- The product after the run. -/
theorem final5 (c : Dev nD) (hg : Finite (G m c)) : (dats m 0 c).arrAt 5 (cfgs 0).N
    = fun i : S16384x6144.Idx => Row.y (rowOf m c (i 0)) (gain (G m c)) (fun k => W m c (ix2 k (i 1))) (WS m c (ix2 0 (i 1))) := by
  refine (dats m 0 c).arrAt_eq_of_covers 5 _ (by decide +kernel) fun t _ y => ?_
  blk_simp
  rw [after0_5]
  frame_out
  idx_vars y
  have e0 : ((((View.whole main_v4_0).slice (win0_5.rect t)).emb (ix2 y0 y1) 0 : Fin 16384) : ℕ) = t.val * 256 + y0.val := by
    blk_simp [idx t]
  have e1 : (((View.whole main_v4_0).slice (win0_5.rect t)).emb (ix2 y0 y1) 1 : Fin 6144) = y1 := by
    refine Fin.ext ?_
    blk_simp [idx t]
  refine (y_at _ _ _ _ _ (finite_blk m c t hg) y0 y1).trans ?_
  rw [row_blk m c t y0 _ e0, gain_blk, w_blk, ws_blk]
  exact congrArg (fun z : Fin 6144 => Row.y _ _ (fun k => W m c (ix2 k z)) (WS m c (ix2 0 z))) e1.symm

end Cert.KernelIdeal.Final
-- ==== Proof.RefRow.lean ====
module

public import proofs.«01_k».proof.Proof.Row
public import proofs.«01_k».proof.Proof.Gen.ReferenceIdeal.Frame
public import Idealize.ShloMosaic.Lib.Pointwise
public import Idealize.ShloMosaic.Lib.Pipeline.ValueKit

@[expose] public section

set_option maxRecDepth 16384

noncomputable section

/-! # The reference's payloads, read row by row -/

namespace Cert.ReferenceIdeal.Rows

open Cert.ReferenceIdeal Cert.ReferenceIdeal.Gen Idealize.ShloMosaic Idealize.ShloMosaic.TcCoe Idealize.SL.Sem

variable (x0 x1 : FVec Ideal S16384x2048 .f32) (x2 : FVec Ideal S1x2048 .f32)

/-- Row `i` of the summed activations. -/
def row (i : Fin 16384) : Fin 2048 → EReal := fun j => x0 (ix2 i j) + x1 (ix2 i j)

/-- The gain as a row. -/
def gain : Fin 2048 → EReal := fun j => x2 (ix2 0 j)

/-- The summed activations. -/
theorem pay3_at (i : Fin 16384) (j : Fin 2048) : k0_pay3 (F := Ideal) x0 x1 (ix2 i j) = row x0 x1 i j := by
  pointwise [k0_pay3]
  rfl

/-- The normalised activations. -/
theorem pay4_at (i : Fin 16384) (j : Fin 2048) : k0_pay4 (F := Ideal) x0 x1 x2 (ix2 i j) = Row.h (row x0 x1 i) (gain x2) j := by
  pointwise [k0_pay4, pay3_at]
  simp only [Row.h, Row.inv, gain]

/-- The largest absolute value of each row. -/
def amaxs : FVec Ideal S16384 .f32 :=
  multiReduction .maximumf [1] S16384 (absf (k0_pay4 (F := Ideal) x0 x1 x2)) 0xFF800000#32 reduces_S16384x2048_S16384 (.inl rfl) rfl

/-- The largest absolute value of row `i`. -/
theorem amaxs_at (i : Fin 16384) : amaxs x0 x1 x2 (ix1 i) = Row.amax (row x0 x1 i) (gain x2) := by
  pointwise [amaxs, pay4_at]
  simp only [Row.amax]

/-- The quantiser's arguments, from a vector of largest absolute values. -/
def args (a : FVec Ideal S16384 .f32) : FVec Ideal S16384x1 .f32 :=
  mulf (shapeCast S16384x1 a shapeCasts_S16384_S16384x1) (broadcast S16384x1 (Scalar.ofBits .f32 0x3B124925#32))

/-- The `i`th of them. -/
theorem args_at (a : FVec Ideal S16384 .f32) (i : Fin 16384) :
    args a (ix2 i 0) = a (ix1 i) * Ideal.ofBits .f32 0x3B124925#32 := by
  pointwise [args]

/-- The quantiser's exponents of a vector of arguments, as the body computes them. -/
def exponents (t : FVec Ideal S16384x1 .f32) : FVec Ideal S16384x1 .f32 :=
  select (cmpf .olt t (broadcast S16384x1 (Scalar.ofBits .f32 0x00800000#32)))
    (broadcast S16384x1 (Scalar.ofBits .f32 0x00000000#32))
    (addf (floor (divf (log t) (broadcast S16384x1 (Scalar.log (Scalar.ofBits .f32 0x40000000#32)))))
      (broadcast S16384x1 (Scalar.ofBits .f32 0x3F800000#32)))

/-- The `i`th of them. -/
theorem exponents_at (t : FVec Ideal S16384x1 .f32) (i : Fin 16384) :
    exponents t (ix2 i 0) = Pow2.exponent (t (ix2 i 0)) := by
  pointwise [exponents]
  rfl

/-- The quantiser's exponents. -/
theorem pay5_at (i : Fin 16384) :
    k0_pay5 (F := Ideal) x0 x1 x2 (ix2 i 0) = Pow2.exponent (Row.t (row x0 x1 i) (gain x2)) := by
  have e : k0_pay5 (F := Ideal) x0 x1 x2 = exponents (args (amaxs x0 x1 x2)) := rfl
  rw [e, exponents_at, args_at, amaxs_at]
  rfl

/-- Two to a vector of exponents. -/
theorem exp2_at (e : FVec Ideal S16384x1 .f32) (i : Fin 16384) : exp2 e (ix2 i 0) = Ideal.exp2 (e (ix2 i 0)) := rfl

/-- The scales. -/
theorem pay6_at (i : Fin 16384) : k0_pay6 (F := Ideal) x0 x1 x2 (ix2 i 0) = Row.scale (row x0 x1 i) (gain x2) := by
  have e : k0_pay6 (F := Ideal) x0 x1 x2 = exp2 (k0_pay5 (F := Ideal) x0 x1 x2) := rfl
  rw [e, exp2_at, pay5_at]
  rfl

/-- Normalised activations over their scales, as the body computes them. -/
def scaled (h : FVec Ideal S16384x2048 .f32) (e : FVec Ideal S16384x1 .f32) : FVec Ideal S16384x2048 .f32 :=
  mulf h (broadcastTo S16384x2048 (exp2 (subf (broadcast S16384x1 (Scalar.ofBits .f32 0x00000000#32)) e)) broadcasts_S16384x1_S16384x2048)

/-- One element of them. -/
theorem scaled_at (h : FVec Ideal S16384x2048 .f32) (e : FVec Ideal S16384x1 .f32) (i : Fin 16384) (j : Fin 2048) :
    scaled h e (ix2 i j) = h (ix2 i j) * Ideal.exp2 (0 - e (ix2 i 0)) := by
  pointwise [scaled]
  rfl

/-- The activations over their scales. -/
theorem pay7_at (i : Fin 16384) (j : Fin 2048) : k0_pay7 (F := Ideal) x0 x1 x2 (ix2 i j)
    = Row.h (row x0 x1 i) (gain x2) j * Ideal.exp2 (0 - Pow2.exponent (Row.t (row x0 x1 i) (gain x2))) := by
  have e : k0_pay7 (F := Ideal) x0 x1 x2 = scaled (k0_pay4 (F := Ideal) x0 x1 x2) (k0_pay5 (F := Ideal) x0 x1 x2) := rfl
  rw [e, scaled_at, pay4_at, pay5_at]

/-- The codes of a vector of scaled activations. -/
theorem clipped_at (h : FVec Ideal S16384x2048 .f32) (i : Fin 16384) (j : Fin 2048) :
    k0_pay1 (F := Ideal) h (Scalar.ofBits .f32 0x43E00000#32) k0_pay8 (ix2 i j)
      = min (Ideal.ofBits .f32 0x43E00000#32) (max (Ideal.ofBits .f32 0xC3E00000#32) (h (ix2 i j))) := by
  pointwise [k0_pay1, k0_pay8]

/-- The codes. -/
theorem pay1_at (i : Fin 16384) (j : Fin 2048) :
    k0_pay1 (F := Ideal) (k0_pay7 x0 x1 x2) (Scalar.ofBits .f32 0x43E00000#32) k0_pay8 (ix2 i j)
      = Row.code (row x0 x1 i) (gain x2) j := by
  rw [clipped_at, pay7_at, Row.code]

/-- The product, from the codes and the scales. -/
theorem pay2_at (s h c : _) (b : EReal) (w : FVec Ideal S2048x6144 .fp8e4m3) (ws : FVec Ideal S1x6144 .f32) (i : Fin 16384) (j : Fin 6144) :
    k0_pay2 (F := Ideal) s h b c w ws (ix2 i j)
      = (∑ k, k0_pay1 (F := Ideal) h b c (ix2 i k) * w (ix2 k j)) * s (ix2 i 0) * ws (ix2 0 j) := by
  pointwise [k0_pay2]

/-! ## What the body leaves -/

variable (x3 : FVec Ideal S2048x6144 .fp8e4m3) (x4 : FVec Ideal S1x6144 .f32)

/-- The scales the later parts of the body read. -/
theorem pay9_eq : k0_pay9 (F := Ideal) x0 x1 x2 x3 x4 = k0_pay6 x0 x1 x2 := by
  unfold k0_pay9
  frame_out

/-- The scaled activations the later parts of the body read. -/
theorem pay10_eq : k0_pay10 (F := Ideal) x0 x1 x2 x3 x4 = k0_pay7 x0 x1 x2 := by
  unfold k0_pay10
  frame_out

/-- The scales. -/
theorem scale_at (i : Fin 16384) : k0_pay9 (F := Ideal) x0 x1 x2 x3 x4 (ix2 i 0) = Row.scale (row x0 x1 i) (gain x2) := by
  rw [pay9_eq, pay6_at]

/-- The codes. -/
theorem code_at (i : Fin 16384) (j : Fin 2048) :
    k0_pay1 (F := Ideal) (k0_pay10 x0 x1 x2 x3 x4) (Scalar.ofBits .f32 0x43E00000#32) (k0_pay11 x0 x1 x2 x3 x4) (ix2 i j)
      = Row.code (row x0 x1 i) (gain x2) j := by
  rw [pay10_eq]
  exact pay1_at x0 x1 x2 i j

/-- The product. -/
theorem y_at (i : Fin 16384) (j : Fin 6144) :
    k0_pay2 (F := Ideal) (k0_pay9 x0 x1 x2 x3 x4) (k0_pay10 x0 x1 x2 x3 x4) (Scalar.ofBits .f32 0x43E00000#32)
        (k0_pay11 x0 x1 x2 x3 x4) x3 x4 (ix2 i j)
      = Row.y (row x0 x1 i) (gain x2) (fun k => x3 (ix2 k j)) (x4 (ix2 0 j)) := by
  refine (pay2_at _ _ _ _ x3 x4 i j).trans ?_
  rw [scale_at, Row.y]
  exact congrArg (fun z => z * _ * _) (Finset.sum_congr rfl fun k _ => by rw [code_at])

end Cert.ReferenceIdeal.Rows
-- ==== Proof.RefValue.lean ====
module

public import proofs.«01_k».proof.Proof.RefRow
public import proofs.«01_k».proof.Proof.Gen.ReferenceIdeal.Value
public import Idealize.ShloMosaic.Lib.Pipeline.ValueKit
public import Idealize.ShloMosaic.Lib.Claim

@[expose] public section

set_option maxRecDepth 16384

noncomputable section

/-! # The reference's result arrays after the run, row by row of the flattened arguments -/

namespace Cert.ReferenceIdeal.Final

open Cert.ReferenceIdeal Cert.ReferenceIdeal.Gen Cert.ReferenceIdeal.Rows Idealize.ShloMosaic Idealize.ShloMosaic.TcCoe Idealize.SL.Sem
open Idealize.ShloMosaic.Pipeline (Dat)

variable (m : (ℓ : Loc nD τ sig) → Buf (Elt Ideal) ℓ)

/-- The one point's index maps. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The flattened activations. -/
def X (c : Dev nD) : FVec Ideal S16384x2048 .f32 := shapeCast S16384x2048 (m ((c : Thread nD τ).loc main_arg0)) shapeCasts_S8x2048x2048_S16384x2048

/-- The flattened residual. -/
def X' (c : Dev nD) : FVec Ideal S16384x2048 .f32 := shapeCast S16384x2048 (m ((c : Thread nD τ).loc main_arg1)) shapeCasts_S8x2048x2048_S16384x2048

/-- The gain as a row. -/
def G (c : Dev nD) : FVec Ideal S1x2048 .f32 := shapeCast S1x2048 (m ((c : Thread nD τ).loc main_arg2)) shapeCasts_S2048_S1x2048

/-- The weights' codes. -/
def W (c : Dev nD) : FVec Ideal S2048x6144 .fp8e4m3 := m ((c : Thread nD τ).loc main_arg3)

/-- The weights' scales as a row. -/
def WS (c : Dev nD) : FVec Ideal S1x6144 .f32 := shapeCast S1x6144 (m ((c : Thread nD τ).loc main_arg4)) shapeCasts_S6144_S1x6144

/-- The region finds the flattened arguments in its operand arrays. -/
theorem V_X (c : Dev nD) : V m c main_v0 = X m c := by entry_read; rfl
@[inherit_doc V_X]
theorem V_X' (c : Dev nD) : V m c main_v1 = X' m c := by entry_read; rfl
@[inherit_doc V_X]
theorem V_G (c : Dev nD) : V m c main_v2 = G m c := by entry_read; rfl
@[inherit_doc V_X]
theorem V_WS (c : Dev nD) : V m c main_v3 = WS m c := by entry_read; rfl

/-- Each input block is its whole operand array. -/
theorem x_blk (c : Dev nD) (t : Fin cfg0.N) : (iblk m c 0 t : FVec Ideal S16384x2048 .f32) = X m c := by
  rw [← V_X]
  blk_ext! [iblk, idx t]
@[inherit_doc x_blk]
theorem x'_blk (c : Dev nD) (t : Fin cfg0.N) : (iblk m c 1 t : FVec Ideal S16384x2048 .f32) = X' m c := by
  rw [← V_X']
  blk_ext! [iblk, idx t]
@[inherit_doc x_blk]
theorem gain_blk (c : Dev nD) (t : Fin cfg0.N) : (iblk m c 2 t : FVec Ideal S1x2048 .f32) = G m c := by
  rw [← V_G]
  blk_ext! [iblk, idx t]
@[inherit_doc x_blk]
theorem w_blk (c : Dev nD) (t : Fin cfg0.N) : (iblk m c 3 t : FVec Ideal S2048x6144 .fp8e4m3) = W m c := by
  rw [W]
  blk_ext! [iblk, V, idx t]
@[inherit_doc x_blk]
theorem ws_blk (c : Dev nD) (t : Fin cfg0.N) : (iblk m c 4 t : FVec Ideal S1x6144 .f32) = WS m c := by
  rw [← V_WS]
  blk_ext! [iblk, idx t]

/-- Row `i` of the flattened, summed activations. -/
def rowOf (c : Dev nD) (i : Fin 16384) : Fin 2048 → EReal := fun j => X m c (ix2 i j) + X' m c (ix2 i j)

/-- The scales after the run. -/
theorem final8 (c : Dev nD) : (dats m 0 c).arrAt 8 (cfgs 0).N
    = fun i : S16384x1.Idx => Row.scale (rowOf m c (i 0)) (gain (G m c)) := by
  refine (dats m 0 c).arrAt_eq_of_covers 8 _ (by decide +kernel) fun t _ y => ?_
  blk_simp
  rw [after0_8]
  frame_out
  idx_vars y
  obtain rfl : y1 = 0 := Subsingleton.elim _ _
  have e0 : (((View.whole main_v4_3).slice (win0_8.rect t)).emb (ix2 y0 0) 0 : Fin 16384) = y0 := by
    refine Fin.ext ?_
    blk_simp [idx t]
  refine (scale_at _ _ _ _ _ y0).trans ?_
  rw [x_blk, x'_blk, gain_blk]
  exact congrArg (fun z : Fin 16384 => Row.scale (rowOf m c z) _) e0.symm

/-- The codes after the run. -/
theorem final7 (c : Dev nD) : (dats m 0 c).arrAt 7 (cfgs 0).N
    = fun i : S16384x2048.Idx => Row.code (rowOf m c (i 0)) (gain (G m c)) (i 1) := by
  refine (dats m 0 c).arrAt_eq_of_covers 7 _ (by decide +kernel) fun t _ y => ?_
  blk_simp
  rw [after0_7]
  frame_out
  idx_vars y
  have e0 : (((View.whole main_v4_2).slice (win0_7.rect t)).emb (ix2 y0 y1) 0 : Fin 16384) = y0 := by
    refine Fin.ext ?_
    blk_simp [idx t]
  have e1 : (((View.whole main_v4_2).slice (win0_7.rect t)).emb (ix2 y0 y1) 1 : Fin 2048) = y1 := by
    refine Fin.ext ?_
    blk_simp [idx t]
  refine (code_at _ _ _ _ _ y0 y1).trans ?_
  rw [x_blk, x'_blk, gain_blk]
  exact congrArg₂ (fun (z : Fin 16384) (j : Fin 2048) => Row.code (rowOf m c z) _ j) e0.symm e1.symm

/-- The summed activations after the run. -/
theorem final6 (c : Dev nD) : (dats m 0 c).arrAt 6 (cfgs 0).N = fun i : S16384x2048.Idx => rowOf m c (i 0) (i 1) := by
  refine (dats m 0 c).arrAt_eq_of_covers 6 _ (by decide +kernel) fun t _ y => ?_
  blk_simp
  rw [after0_6]
  frame_out
  idx_vars y
  have e0 : (((View.whole main_v4_1).slice (win0_6.rect t)).emb (ix2 y0 y1) 0 : Fin 16384) = y0 := by
    refine Fin.ext ?_
    blk_simp [idx t]
  have e1 : (((View.whole main_v4_1).slice (win0_6.rect t)).emb (ix2 y0 y1) 1 : Fin 2048) = y1 := by
    refine Fin.ext ?_
    blk_simp [idx t]
  refine (pay3_at _ _ y0 y1).trans ?_
  rw [x_blk, x'_blk]
  exact congrArg₂ (fun (z : Fin 16384) (j : Fin 2048) => rowOf m c z j) e0.symm e1.symm

/-- The product after the run. -/
theorem final5 (c : Dev nD) : (dats m 0 c).arrAt 5 (cfgs 0).N
    = fun i : S16384x6144.Idx => Row.y (rowOf m c (i 0)) (gain (G m c)) (fun k => W m c (ix2 k (i 1))) (WS m c (ix2 0 (i 1))) := by
  refine (dats m 0 c).arrAt_eq_of_covers 5 _ (by decide +kernel) fun t _ y => ?_
  blk_simp
  rw [after0_5]
  frame_out
  idx_vars y
  have e0 : (((View.whole main_v4_0).slice (win0_5.rect t)).emb (ix2 y0 y1) 0 : Fin 16384) = y0 := by
    refine Fin.ext ?_
    blk_simp [idx t]
  have e1 : (((View.whole main_v4_0).slice (win0_5.rect t)).emb (ix2 y0 y1) 1 : Fin 6144) = y1 := by
    refine Fin.ext ?_
    blk_simp [idx t]
  refine (y_at _ _ _ _ _ y0 y1).trans ?_
  rw [x_blk, x'_blk, gain_blk, w_blk, ws_blk]
  exact congrArg₂ (fun (z : Fin 16384) (j : Fin 6144) => Row.y (rowOf m c z) _ (fun k => W m c (ix2 k j)) (WS m c (ix2 0 j))) e0.symm e1.symm

end Cert.ReferenceIdeal.Final
-- ==== Proof.Same.lean ====
module

public import proofs.«01_k».proof.Defs
public import proofs.«01_k».proof.Proof.KernelValue
public import proofs.«01_k».proof.Proof.RefValue
public import proofs.«01_k».proof.Proof.Gen.Pre_gain_finite
public import Idealize.ShloMosaic.Lib.ReduceAll

@[expose] public section

set_option maxRecDepth 16384

noncomputable section

/-! # The kernel's and the reference's results are the same arrays -/

namespace Cert.Same

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- An ordered comparison that came out 1 holds. -/
theorem le_of_cmp {x y : EReal} (h : Ideal.cmp .ole x y = 1#1) : x ≤ y := by
  by_contra hn
  simp [Ideal.cmp, hn] at h

/-- The precondition bounds each element of the gain's row by the largest finite float. -/
theorem finite (h : Cert.Pre_KernelIdeal_gain_finite (hPre_gain_finite := Cert.Pre_gain_finite.Gen.facts) m)
    (c : Dev Cert.KernelIdeal.nD) : Cert.KernelIdeal.Rows.Finite (Cert.KernelIdeal.Final.G m c) := by
  intro j
  have e := congrFun (h c) (Shape.Idx.first (by decide))
  dsimp only [Cert.Pre_gain_finite.fn] at e
  have hs : Subsingleton Cert.Pre_gain_finite.S_.Idx := ⟨fun a b => funext fun i => i.elim0⟩
  have k := Host.reduce_andi_all _ _ _ _ _ e (ix1 j)
  have k' := le_of_cmp (x := FloatOps.absf (F := Ideal) (φ := .f32) (m ((c : Thread Cert.KernelIdeal.nD Cert.KernelIdeal.τ).loc Cert.KernelIdeal.main_arg2) (ix1 j))) (y := Ideal.ofBits .f32 0x7F7FFFFF#32) k
  have g : Cert.KernelIdeal.Rows.gain (Cert.KernelIdeal.Final.G m c) j
      = m ((c : Thread Cert.KernelIdeal.nD Cert.KernelIdeal.τ).loc Cert.KernelIdeal.main_arg2) (ix1 j) := by
    pointwise [Cert.KernelIdeal.Rows.gain, Cert.KernelIdeal.Final.G]
  rw [g]
  exact k'

/-- The two programs read the same arguments on device `c`. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'}
variable {c : Dev Cert.KernelIdeal.nD} (h : Agree m m' c)
include h

/-- Then they read the same rows, gain, weights and weight scales. -/
theorem x_eq : Cert.ReferenceIdeal.Final.X m' c = Cert.KernelIdeal.Final.X m c :=
  congrArg (fun z : FVec Ideal Cert.KernelIdeal.S8x2048x2048 .f32 => shapeCast Cert.KernelIdeal.S16384x2048 z Cert.KernelIdeal.Gen.shapeCasts_S8x2048x2048_S16384x2048) h.1
@[inherit_doc x_eq]
theorem x'_eq : Cert.ReferenceIdeal.Final.X' m' c = Cert.KernelIdeal.Final.X' m c :=
  congrArg (fun z : FVec Ideal Cert.KernelIdeal.S8x2048x2048 .f32 => shapeCast Cert.KernelIdeal.S16384x2048 z Cert.KernelIdeal.Gen.shapeCasts_S8x2048x2048_S16384x2048) h.2.1
@[inherit_doc x_eq]
theorem g_eq : Cert.ReferenceIdeal.Final.G m' c = Cert.KernelIdeal.Final.G m c :=
  congrArg (fun z : FVec Ideal Cert.KernelIdeal.S2048 .f32 => shapeCast Cert.KernelIdeal.S1x2048 z Cert.KernelIdeal.Gen.shapeCasts_S2048_S1x2048) h.2.2.1
@[inherit_doc x_eq]
theorem w_eq : Cert.ReferenceIdeal.Final.W m' c = Cert.KernelIdeal.Final.W m c := h.2.2.2.1
@[inherit_doc x_eq]
theorem ws_eq : Cert.ReferenceIdeal.Final.WS m' c = Cert.KernelIdeal.Final.WS m c :=
  congrArg (fun z : FVec Ideal Cert.KernelIdeal.S6144 .f32 => shapeCast Cert.KernelIdeal.S1x6144 z Cert.KernelIdeal.Gen.shapeCasts_S6144_S1x6144) h.2.2.2.2

@[inherit_doc x_eq]
theorem row_eq (i : Fin 16384) : Cert.ReferenceIdeal.Final.rowOf m' c i = Cert.KernelIdeal.Final.rowOf m c i := by
  funext j
  rw [Cert.ReferenceIdeal.Final.rowOf, Cert.KernelIdeal.Final.rowOf, x_eq h, x'_eq h]

/-- The gains are the same function of the column. -/
theorem gain_eq : Cert.ReferenceIdeal.Rows.gain (Cert.ReferenceIdeal.Final.G m' c) = Cert.KernelIdeal.Rows.gain (Cert.KernelIdeal.Final.G m c) := by
  funext j
  rw [Cert.ReferenceIdeal.Rows.gain, Cert.KernelIdeal.Rows.gain, g_eq h]

variable (hg : Cert.KernelIdeal.Rows.Finite (Cert.KernelIdeal.Final.G m c))
include hg

/-- Result 1, the product, is the same array. -/
theorem result1 : (Cert.ReferenceIdeal.Gen.dats m' 0 c).arrAt 5 Cert.ReferenceIdeal.cfg0.N = (Cert.KernelIdeal.Gen.dats m 0 c).arrAt 5 Cert.KernelIdeal.cfg0.N := by
  refine (Cert.ReferenceIdeal.Final.final5 m' c).trans (Eq.trans ?_ (Cert.KernelIdeal.Final.final5 m c hg).symm)
  rw [gain_eq h, w_eq h, ws_eq h]
  exact funext fun i => congrArg (fun r => Row.y r _ _ _) (row_eq h (i 0))

omit hg in
/-- Result 2, the summed activations, is the same array. -/
theorem result2 : (Cert.ReferenceIdeal.Gen.dats m' 0 c).arrAt 6 Cert.ReferenceIdeal.cfg0.N = (Cert.KernelIdeal.Gen.dats m 0 c).arrAt 6 Cert.KernelIdeal.cfg0.N := by
  refine (Cert.ReferenceIdeal.Final.final6 m' c).trans (Eq.trans ?_ (Cert.KernelIdeal.Final.final6 m c).symm)
  exact funext fun i => congrFun (row_eq h (i 0)) (i 1)

/-- Result 3, the codes, is the same array. -/
theorem result3 : (Cert.ReferenceIdeal.Gen.dats m' 0 c).arrAt 7 Cert.ReferenceIdeal.cfg0.N = (Cert.KernelIdeal.Gen.dats m 0 c).arrAt 7 Cert.KernelIdeal.cfg0.N := by
  refine (Cert.ReferenceIdeal.Final.final7 m' c).trans (Eq.trans ?_ (Cert.KernelIdeal.Final.final7 m c hg).symm)
  rw [gain_eq h]
  exact funext fun i => congrArg (fun r => Row.code r _ _) (row_eq h (i 0))

/-- Result 4, the scales, is the same array. -/
theorem result4 : (Cert.ReferenceIdeal.Gen.dats m' 0 c).arrAt 8 Cert.ReferenceIdeal.cfg0.N = (Cert.KernelIdeal.Gen.dats m 0 c).arrAt 8 Cert.KernelIdeal.cfg0.N := by
  refine (Cert.ReferenceIdeal.Final.final8 m' c).trans (Eq.trans ?_ (Cert.KernelIdeal.Final.final8 m c hg).symm)
  rw [gain_eq h]
  exact funext fun i => congrArg (fun r => Row.scale r _) (row_eq h (i 0))

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_gain_finite
public import proofs.«01_k».proof.Proof.Same
public import Idealize.ShloMosaic.Adequacy
public import Idealize.ShloMosaic.Init

@[expose] public section

noncomputable section

namespace Cert.Proof

open Idealize.ShloMosaic Idealize.SL.Sem Cert.Kernel

/-- With a finite gain, the idealized kernel and the reference end with the same four results. -/
theorem algebraic : Cert.algebraic_KernelIdeal_ReferenceIdeal_pre_gain_finite (hKernelIdeal := Cert.KernelIdeal.Gen.facts)
    (hReferenceIdeal := Cert.ReferenceIdeal.Gen.facts) (hPre_gain_finite := Cert.Pre_gain_finite.Gen.facts) := by
  intro m g m' g' hp ha
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m g, ?_⟩
  refine (θ_run _ _ _).mono (fun r h c => ?_) (Cert.ReferenceIdeal.Value.run_blocks m' g')
  obtain ⟨h5, h6, h7, h8, hargs⟩ := h c
  have hg := Cert.Same.finite m hp c
  exact ⟨h5.trans (Cert.Same.result1 (ha c) hg), h6.trans (Cert.Same.result2 (ha c)), h7.trans (Cert.Same.result3 (ha c) hg),
    h8.trans (Cert.Same.result4 (ha c) hg), hargs⟩

/-- Everything `Defs.lean` claims. -/
theorem claim : Cert.Claim := ⟨Cert.Kernel.Gen.facts, Cert.KernelIdeal.Gen.facts, Cert.ReferenceIdeal.Gen.facts, Cert.Pre_gain_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
